-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S6272x384 : Shape := ⟨2, ![6272, 384]⟩
abbrev S20000x384 : Shape := ⟨2, ![20000, 384]⟩
abbrev S_ : Shape := ⟨0, ![]⟩

class Facts : Prop where
  bcast_S_S6272x384 : S_.BroadcastsInDim S6272x384 (![] : Fin 0 → Fin S6272x384.rank)
  bcast_S_S20000x384 : S_.BroadcastsInDim S20000x384 (![] : Fin 0 → Fin S20000x384.rank)

variable [Facts]

def fn {F : FTy → Type} [FloatOps F] (main_arg0 : FVec F S6272x384 .f32) (main_arg1 : FVec F S20000x384 .f32) : IVec S6272x384 1 × IVec S20000x384 1 :=
  let main_v0 : FVec F S6272x384 .f32 := Host.absf main_arg0
  let main_cst : FVec F S_ .f32 := constant S_ .f32 0x45000000#32
  let main_v1 : FVec F S6272x384 .f32 := broadcastInDim S6272x384 ![] bcast_S_S6272x384 main_cst
  let main_v2 : IVec S6272x384 1 := cmpf .ole main_v0 main_v1
  let main_v3 : FVec F S20000x384 .f32 := Host.absf main_arg1
  let main_cst_0 : FVec F S_ .f32 := constant S_ .f32 0x45000000#32
  let main_v4 : FVec F S20000x384 .f32 := broadcastInDim S20000x384 ![] bcast_S_S20000x384 main_cst_0
  let main_v5 : IVec S20000x384 1 := cmpf .ole main_v3 main_v4
  (main_v2, main_v5)
-- ==== Kernel.lean ====
abbrev S6272x384 : Shape := ⟨2, ![6272, 384]⟩
abbrev S20000x384 : Shape := ⟨2, ![20000, 384]⟩
abbrev S_ : Shape := ⟨0, ![]⟩
abbrev S6272x2 : Shape := ⟨2, ![6272, 2]⟩
abbrev S6272x14 : Shape := ⟨2, ![6272, 14]⟩
abbrev S6272x400 : Shape := ⟨2, ![6272, 400]⟩
abbrev S20000 : Shape := ⟨1, ![20000]⟩
abbrev S20000x1 : Shape := ⟨2, ![20000, 1]⟩
abbrev S20000x14 : Shape := ⟨2, ![20000, 14]⟩
abbrev S20000x400 : Shape := ⟨2, ![20000, 400]⟩
abbrev S480x400 : Shape := ⟨2, ![480, 400]⟩
abbrev S1 : Shape := ⟨1, ![1]⟩
abbrev S480 : Shape := ⟨1, ![480]⟩
abbrev S20480x400 : Shape := ⟨2, ![20480, 400]⟩
abbrev S8x1x784 : Shape := ⟨3, ![8, 1, 784]⟩
abbrev S8x1x128 : Shape := ⟨3, ![8, 1, 128]⟩
abbrev S784x400 : Shape := ⟨2, ![784, 400]⟩
abbrev S1x1x784 : Shape := ⟨3, ![1, 1, 784]⟩
abbrev S1x1x128 : Shape := ⟨3, ![1, 1, 128]⟩
abbrev S512x400 : Shape := ⟨2, ![512, 400]⟩
abbrev S784x512 : Shape := ⟨2, ![784, 512]⟩
abbrev S784x128 : Shape := ⟨2, ![784, 128]⟩
abbrev S784 : Shape := ⟨1, ![784]⟩
abbrev S1x784 : Shape := ⟨2, ![1, 784]⟩
abbrev S1x1 : Shape := ⟨2, ![1, 1]⟩
abbrev S128 : Shape := ⟨1, ![128]⟩
abbrev S8x28x28 : Shape := ⟨3, ![8, 28, 28]⟩
abbrev S8x1x1 : Shape := ⟨3, ![8, 1, 1]⟩
abbrev S8 : Shape := ⟨1, ![8]⟩

abbrev nBuf : Space → Nat
  | .hbm => 37
  | .vmem => 7
  | .smem => 0
  | _ => 0

abbrev bufTy : (tb : Table) → Fin (tcTables nBuf tb) → BufTy
  | .hbm, ⟨0, _⟩ => ⟨S6272x384, .f32⟩
  | .hbm, ⟨1, _⟩ => ⟨S20000x384, .f32⟩
  | .hbm, ⟨2, _⟩ => ⟨S_, .f32⟩
  | .hbm, ⟨3, _⟩ => ⟨S6272x384, .f32⟩
  | .hbm, ⟨4, _⟩ => ⟨S6272x384, .f32⟩
  | .hbm, ⟨5, _⟩ => ⟨S6272x384, .bf16⟩
  | .hbm, ⟨6, _⟩ => ⟨S_, .bf16⟩
  | .hbm, ⟨7, _⟩ => ⟨S6272x2, .bf16⟩
  | .hbm, ⟨8, _⟩ => ⟨S_, .bf16⟩
  | .hbm, ⟨9, _⟩ => ⟨S6272x14, .bf16⟩
  | .hbm, ⟨10, _⟩ => ⟨S6272x400, .bf16⟩
  | .hbm, ⟨11, _⟩ => ⟨S20000x384, .f32⟩
  | .hbm, ⟨12, _⟩ => ⟨S_, .f32⟩
  | .hbm, ⟨13, _⟩ => ⟨S20000, .f32⟩
  | .hbm, ⟨14, _⟩ => ⟨S20000, .bf16⟩
  | .hbm, ⟨15, _⟩ => ⟨S20000, .f32⟩
  | .hbm, ⟨16, _⟩ => ⟨S20000, .f32⟩
  | .hbm, ⟨17, _⟩ => ⟨S20000, .bf16⟩
  | .hbm, ⟨18, _⟩ => ⟨S20000x384, .bf16⟩
  | .hbm, ⟨19, _⟩ => ⟨S20000x1, .bf16⟩
  | .hbm, ⟨20, _⟩ => ⟨S20000x1, .bf16⟩
  | .hbm, ⟨21, _⟩ => ⟨S_, .bf16⟩
  | .hbm, ⟨22, _⟩ => ⟨S20000x14, .bf16⟩
  | .hbm, ⟨23, _⟩ => ⟨S20000x400, .bf16⟩
  | .hbm, ⟨24, _⟩ => ⟨S_, .bf16⟩
  | .hbm, ⟨25, _⟩ => ⟨S480x400, .bf16⟩
  | .hbm, ⟨26, _⟩ => ⟨S_, .i32⟩
  | .hbm, ⟨27, _⟩ => ⟨S1, .i32⟩
  | .hbm, ⟨28, _⟩ => ⟨S_, .bf16⟩
  | .hbm, ⟨29, _⟩ => ⟨S480, .bf16⟩
  | .hbm, ⟨30, _⟩ => ⟨S480x400, .bf16⟩
  | .hbm, ⟨31, _⟩ => ⟨S20480x400, .bf16⟩
  | .hbm, ⟨32, _⟩ => ⟨S8x1x784, .f32⟩
  | .hbm, ⟨33, _⟩ => ⟨S8x1x128, .f32⟩
  | .hbm, ⟨34, _⟩ => ⟨S8x28x28, .f32⟩
  | .hbm, ⟨35, _⟩ => ⟨S8x1x1, .f32⟩
  | .hbm, ⟨36, _⟩ => ⟨S8, .f32⟩
  | .local _ .vmem, ⟨0, _⟩ => ⟨S784x400, .bf16⟩
  | .local _ .vmem, ⟨1, _⟩ => ⟨S784x400, .bf16⟩
  | .local _ .vmem, ⟨2, _⟩ => ⟨S20480x400, .bf16⟩
  | .local _ .vmem, ⟨3, _⟩ => ⟨S1x1x784, .f32⟩
  | .local _ .vmem, ⟨4, _⟩ => ⟨S1x1x784, .f32⟩
  | .local _ .vmem, ⟨5, _⟩ => ⟨S1x1x128, .f32⟩
  | .local _ .vmem, ⟨6, _⟩ => ⟨S1x1x128, .f32⟩
  | _, _ => ⟨S6272x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_cst_4 : Ref sig .tc := ⟨.hbm, 24, rfl⟩
abbrev main_v17 : Ref sig .tc := ⟨.hbm, 25, rfl⟩
abbrev main_c : Ref sig .tc := ⟨.hbm, 26, rfl⟩
abbrev main_v18 : Ref sig .tc := ⟨.hbm, 27, rfl⟩
abbrev main_cst_5 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22_0 : Ref sig .tc := ⟨.hbm, 32, rfl⟩
abbrev main_v22_1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S784x400 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20480x400 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x784 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S6272x384 : Shape := ⟨2, ![6272, 384]⟩
abbrev S20000x384 : Shape := ⟨2, ![20000, 384]⟩
abbrev S_ : Shape := ⟨0, ![]⟩
abbrev S6272 : Shape := ⟨1, ![6272]⟩
abbrev S6272x1 : Shape := ⟨2, ![6272, 1]⟩
abbrev S20000 : Shape := ⟨1, ![20000]⟩
abbrev S1x20000 : Shape := ⟨2, ![1, 20000]⟩
abbrev S6272x20000 : Shape := ⟨2, ![6272, 20000]⟩
abbrev S384x20000 : Shape := ⟨2, ![384, 20000]⟩
abbrev S8x28x28 : Shape := ⟨3, ![8, 28, 28]⟩
abbrev S8x784 : Shape := ⟨2, ![8, 784]⟩
abbrev S8 : Shape := ⟨1, ![8]⟩

abbrev nBuf : Space → Nat
  | .hbm => 32
  | .vmem => 0
  | .smem => 0
  | _ => 0

abbrev bufTy : (tb : Table) → Fin (tcTables nBuf tb) → BufTy
  | .hbm, ⟨0, _⟩ => ⟨S6272x384, .f32⟩
  | .hbm, ⟨1, _⟩ => ⟨S20000x384, .f32⟩
  | .hbm, ⟨2, _⟩ => ⟨S6272x384, .f32⟩
  | .hbm, ⟨3, _⟩ => ⟨S_, .f32⟩
  | .hbm, ⟨4, _⟩ => ⟨S6272, .f32⟩
  | .hbm, ⟨5, _⟩ => ⟨S6272x1, .f32⟩
  | .hbm, ⟨6, _⟩ => ⟨S20000x384, .f32⟩
  | .hbm, ⟨7, _⟩ => ⟨S_, .f32⟩
  | .hbm, ⟨8, _⟩ => ⟨S20000, .f32⟩
  | .hbm, ⟨9, _⟩ => ⟨S1x20000, .f32⟩
  | .hbm, ⟨10, _⟩ => ⟨S6272x20000, .f32⟩
  | .hbm, ⟨11, _⟩ => ⟨S6272x20000, .f32⟩
  | .hbm, ⟨12, _⟩ => ⟨S6272x20000, .f32⟩
  | .hbm, ⟨13, _⟩ => ⟨S384x20000, .f32⟩
  | .hbm, ⟨14, _⟩ => ⟨S6272x20000, .f32⟩
  | .hbm, ⟨15, _⟩ => ⟨S_, .f32⟩
  | .hbm, ⟨16, _⟩ => ⟨S6272x20000, .f32⟩
  | .hbm, ⟨17, _⟩ => ⟨S6272x20000, .f32⟩
  | .hbm, ⟨18, _⟩ => ⟨S6272x20000, .f32⟩
  | .hbm, ⟨19, _⟩ => ⟨S_, .f32⟩
  | .hbm, ⟨20, _⟩ => ⟨S6272x20000, .f32⟩
  | .hbm, ⟨21, _⟩ => ⟨S6272x20000, .f32⟩
  | .hbm, ⟨22, _⟩ => ⟨S6272x20000, .f32⟩
  | .hbm, ⟨23, _⟩ => ⟨S6272x1, .f32⟩
  | .hbm, ⟨24, _⟩ => ⟨S6272x1, .i32⟩
  | .hbm, ⟨25, _⟩ => ⟨S6272, .f32⟩
  | .hbm, ⟨26, _⟩ => ⟨S6272, .f32⟩
  | .hbm, ⟨27, _⟩ => ⟨S6272, .f32⟩
  | .hbm, ⟨28, _⟩ => ⟨S8x28x28, .f32⟩
  | .hbm, ⟨29, _⟩ => ⟨S8x784, .f32⟩
  | .hbm, ⟨30, _⟩ => ⟨S_, .f32⟩
  | .hbm, ⟨31, _⟩ => ⟨S8, .f32⟩
  | _, _ => ⟨S6272x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_values : Ref sig .tc := ⟨.hbm, 23, rfl⟩
abbrev main_indices : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_3 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== Proof.Block.lean ====
/- What one run of the kernel's body leaves in its two output buffers, read at an index. -/
module

public import proofs.«01_k».proof.Proof.Gen.KernelIdeal.Frame
public import Idealize.ShloMosaic.Lib.Pointwise

@[expose] public section

set_option maxRecDepth 16384

noncomputable section

namespace Cert.Nearest

open Idealize.ShloMosaic Cert.KernelIdeal Cert.KernelIdeal.Gen

/-- Row `k`, column `d` of the bank's block, its row a plain number (zero past the last row). -/
def bankAt (x1 : Vec Ideal S20480x400 .bf16) (k : Nat) (d : Fin 400) : EReal :=
  if h : k < 20480 then x1 (ix2 ⟨k, h⟩ d) else 0

/-- An element of the bank's block whose row is given with its bound is `bankAt` of the row. -/
theorem bank_eq (x1 : Vec Ideal S20480x400 .bf16) (k : Nat) (h : k < 20480) (d : Fin 400) :
    (x1 (ix2 ⟨k, h⟩ d) : EReal) = bankAt x1 k d := by
  unfold bankAt; rw [dif_pos h]

/-- The product of query row `p` of a block with bank row `k`. -/
def score (x0 : Vec Ideal S784x400 .bf16) (x1 : Vec Ideal S20480x400 .bf16) (p : Fin 784) (k : Nat) : EReal :=
  ∑ d : Fin 400, (x0 (ix2 p d) : EReal) * bankAt x1 k d

/-- The least of `f 0`, …, `f n`, taken from the left. -/
def minTo (f : Nat → EReal) : Nat → EReal
  | 0 => f 0
  | n + 1 => min (minTo f n) (f (n + 1))

/-- A number lies below `minTo f n` exactly when it lies below each of the values. -/
theorem le_minTo (f : Nat → EReal) (x : EReal) (n : Nat) : x ≤ minTo f n ↔ ∀ i, i ≤ n → x ≤ f i := by
  induction n with
  | zero =>
    constructor
    · intro h i hi
      obtain rfl : i = 0 := by omega
      exact h
    · intro h
      exact h 0 (le_refl 0)
  | succ n ih =>
    simp only [minTo, le_min_iff, ih]
    constructor
    · rintro ⟨h, h'⟩ i hi
      rcases Nat.lt_or_ge n i with hn | hn
      · obtain rfl : i = n + 1 := by omega
        exact h'
      · exact h i hn
    · intro h
      exact ⟨fun i hi => h i (by omega), h (n + 1) (le_refl _)⟩

/-- The nearest squared distance the body takes for query row `p`, before the root. -/
def nearest (x0 : Vec Ideal S784x400 .bf16) (x1 : Vec Ideal S20480x400 .bf16) (p : Fin 784) : EReal :=
  max (Ideal.ofBits .f32 0x3E800000#32 * ((∑ d : Fin 400, (x0 (ix2 p d) : EReal) * x0 (ix2 p d)) - Ideal.ofBits .f32 0x40000000#32)
      + ⨅ k : Fin 20480, score x0 x1 p k.val)
    (Ideal.ofBits .f32 0x2B8CBCCC#32)

/-- The least over 128 lanes of the two running minima is the least over all 20480 bank rows. -/
theorem lanes_eq (f : Nat → EReal) :
    Finset.fold min ⊤ (fun l : Fin 128 => min (minTo (fun i => f (256 * i + l.val)) 79) (minTo (fun i => f (256 * i + 128 + l.val)) 79))
      Finset.univ = ⨅ k : Fin 20480, f k.val := by
  refine eq_of_forall_le_iff fun x => ?_
  rw [Finset.le_fold_min, le_iInf_iff]
  simp only [le_top, true_and, Finset.mem_univ, forall_const, le_min_iff, le_minTo]
  constructor
  · intro h k
    have hk := k.isLt
    obtain ⟨h0, h1⟩ := h ⟨k.val % 128, by omega⟩
    rcases Nat.lt_or_ge (k.val % 256) 128 with hl | hl
    · have := h0 (k.val / 256) (by omega)
      rwa [show 256 * (k.val / 256) + k.val % 128 = k.val by omega] at this
    · have := h1 (k.val / 256) (by omega)
      rwa [show 256 * (k.val / 256) + 128 + k.val % 128 = k.val by omega] at this
  · intro h l
    have hl := l.isLt
    exact ⟨fun i hi => h ⟨256 * i + l.val, by omega⟩, fun i hi => h ⟨256 * i + 128 + l.val, by omega⟩⟩

set_option maxHeartbeats 4000000 in
/-- The root the body takes for query row `p` is that of `nearest`. -/
theorem root_apply (x0 : Vec Ideal S784x400 .bf16) (x1 : Vec Ideal S20480x400 .bf16) (p : Fin 784) :
    (k0_pay64 (F := Ideal) (k0_pay67 x0 x1) (k0_pay73 x0 x1) (k0_pay74 x0 x1) (k0_pay75 x0 x1) (k0_pay72 x0 x1) (View.ld x1 r0_40) (ix1 p) : EReal)
      = Ideal.sqrt (nearest x0 x1 p) := by
  unfold nearest
  rw [← lanes_eq (score x0 x1 p)]
  pointwise [k0_pay67, k0_pay68, k0_pay69, k0_pay70, k0_pay71, k0_pay72, k0_pay73, k0_pay74, k0_pay75, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64]
  simp only [bank_eq, ← Nat.add_assoc, Nat.reduceAdd]
  simp only [minTo, score, Nat.reduceAdd, Nat.reduceMul, Nat.mul_zero, Nat.zero_add]
  rfl

/-- The body leaves the root of query row `p` in column `p` of the first output's buffer. -/
theorem patch_block_apply (x0 : Vec Ideal S784x400 .bf16) (x1 : Vec Ideal S20480x400 .bf16) (a b : Fin 1) (p : Fin 784) :
    (out0_2 (F := Ideal) x0 x1 (ix3 a b p) : EReal) = Ideal.sqrt (nearest x0 x1 p) := by
  unfold out0_2
  rw [View.canon_unit_zero (by funext a; fin_cases a <;> rfl)]
  pointwise [k0_pay65]
  exact root_apply x0 x1 p

/-- The body leaves the greatest root of the block's 784 query rows in every column of the second output's buffer. -/
theorem image_block_apply (x0 : Vec Ideal S784x400 .bf16) (x1 : Vec Ideal S20480x400 .bf16) (a b : Fin 1) (l : Fin 128) :
    (out0_3 (F := Ideal) x0 x1 (ix3 a b l) : EReal)
      = Finset.fold max (Ideal.ofBits .f32 0xFF800000#32) (fun p : Fin 784 => Ideal.sqrt (nearest x0 x1 p)) Finset.univ := by
  unfold out0_3
  rw [View.canon_unit_zero (by funext a; fin_cases a <;> rfl)]
  pointwise [k0_pay66]
  exact congrArg (fun f => Finset.fold max _ f Finset.univ) (funext fun p => root_apply x0 x1 p)

end Cert.Nearest

end
-- ==== Proof.Prefix.lean ====
/- The two arrays the kernel's pipeline reads, as the host operations before it leave them, read at an index. -/
module

public import proofs.«01_k».proof.Proof.Gen.KernelIdeal.Frame
public import Idealize.ShloMosaic.Lib.Routing.OpsOne
public import Idealize.ShloMosaic.Lib.StableHlo.ReadAt
public import Idealize.ShloMosaic.Lib.Pointwise

@[expose] public section

set_option maxRecDepth 16384

noncomputable section

namespace Cert.Nearest

open Idealize.ShloMosaic Idealize.ShloMosaic.TcCoe Idealize.SL.Sem Cert.KernelIdeal Cert.KernelIdeal.Gen

/-- The 480 rows behind the bank: the large number in column 384, zero in every other column. -/
theorem pad_apply (r : Fin 480) (d : Fin 400) :
    (Host.scatter scatter_S480x400_S1_S480_0_1_1_0 (fun _ b => b)
        (broadcastInDim S480x400 ![] Facts₀.bcast_S_S480x400 (constant (F := Ideal) S_ .bf16 0x0000#16))
        (broadcastInDim S1 ![] Facts₀.bcast_S_S1 (constantI S_ 32 384#32))
        (broadcastInDim S480 ![] Facts₀.bcast_S_S480 (constant (F := Ideal) S_ .bf16 0x5015#16)) (ix2 r d) : EReal)
      = if d.val = 384 then Ideal.ofBits .bf16 0x5015#16 else 0 := by
  have lands : ∀ w : Fin 480, scatter_S480x400_S1_S480_0_1_1_0.resultIdx? (ix1 w)
      (broadcastInDim S1 ![] Facts₀.bcast_S_S1 (constantI S_ 32 384#32)) = some (ix2 r d) ↔ w = r ∧ d = (384 : Fin 400) := fun w =>
    Routing.lands_col (A := 480) (N := 400) scatter_S480x400_S1_S480_0_1_1_0 rfl rfl _ 384 rfl w r d
  by_cases h : d.val = 384
  · rw [if_pos h]
    refine Routing.scatter_set_hit _ _ _ _ _ _ (fun k _ => ?_) (ix1 r) ((lands r).2 ⟨rfl, Fin.ext h⟩)
    pointwise
  · rw [if_neg h]
    refine (Routing.scatter_set_miss _ _ _ _ _ fun k hk => h ?_).trans ?_
    · idx_vars k
      exact congrArg Fin.val ((lands _).1 hk).2
    · pointwise

/-- The augmented queries over an array of queries: minus twice the query, then two ones, then zeros. -/
def augQuery (q : Vec Ideal S6272x384 .f32) (r : Fin 6272) (d : Fin 400) : EReal :=
  if h : d.val < 384 then Ideal.ofBits .f32 0xC0000000#32 * q (ix2 r ⟨d.val, h⟩) else if d.val < 386 then 1 else 0

/-- The sum of the squares of bank row `k`. -/
def normSq (m : Vec Ideal S20000x384 .f32) (k : Fin 20000) : EReal :=
  ∑ d : Fin 384, (m (ix2 k d) : EReal) * m (ix2 k d)

/-- The augmented bank over a bank: a row, then its squared norm, then the norm minus itself, then zeros; behind the last row the large number in column 384. -/
def augBank (m : Vec Ideal S20000x384 .f32) (k : Fin 20480) (d : Fin 400) : EReal :=
  if hk : k.val < 20000 then
    if h : d.val < 384 then m (ix2 ⟨k.val, hk⟩ ⟨d.val, h⟩)
    else if d.val = 384 then normSq m ⟨k.val, hk⟩
    else if d.val = 385 then normSq m ⟨k.val, hk⟩ - normSq m ⟨k.val, hk⟩
    else 0
  else if d.val = 384 then Ideal.ofBits .bf16 0x5015#16 else 0

variable (m : (ℓ : Loc nD τ sig) → Buf (Elt Ideal) ℓ) (c : Dev nD)

/-- The pipeline's first array is the augmented queries. -/
theorem queries_apply (r : Fin 6272) (d : Fin 400) :
    (show EReal from V m c main_v5 (ix2 r d)) = augQuery (m ((c.tc : Thread nD τ).loc main_arg0)) r d := by
  unfold V V0
  after_reads_at
  after_reads_at
  unfold augQuery
  by_cases h : d.val < 384
  · rw [dif_pos h, dif_pos h]
  · rw [dif_neg h, dif_neg h]
    by_cases h' : d.val < 386
    · rw [if_pos h', dif_pos (by omega)]
    · rw [if_neg h', dif_neg (by omega)]

set_option maxHeartbeats 1600000 in
/-- The pipeline's second array is the augmented bank. -/
theorem bank_apply (k : Fin 20480) (d : Fin 400) :
    (show EReal from V m c main_v21 (ix2 k d)) = augBank (m ((c.tc : Thread nD τ).loc main_arg1)) k d := by
  unfold V V0
  after_reads_at
  after_reads_at
  unfold augBank
  by_cases hk : k.val < 20000
  · rw [dif_pos hk, dif_pos hk]
    by_cases h : d.val < 384
    · rw [dif_pos h, dif_pos h]
    · rw [dif_neg h, dif_neg h]
      by_cases h1 : d.val = 384
      · rw [if_pos h1, dif_pos (by omega)]; rfl
      · rw [if_neg h1, dif_neg (by omega)]
        by_cases h2 : d.val = 385
        · rw [if_pos h2, dif_pos (by omega)]; rfl
        · rw [if_neg h2, dif_neg (by omega)]
  · rw [dif_neg hk, dif_neg hk]
    exact pad_apply _ d

end Cert.Nearest

end
-- ==== Proof.Arrays.lean ====
/- What the kernel's two result arrays hold after the run, as functions of the argument arrays. -/
module

public import proofs.«01_k».proof.Proof.Block
public import proofs.«01_k».proof.Proof.Prefix
public import Idealize.ShloMosaic.Lib.Pipeline.ValueKit

@[expose] public section

set_option maxRecDepth 16384

noncomputable section

namespace Cert.Nearest

open Idealize.ShloMosaic Idealize.ShloMosaic.TcCoe Idealize.SL.Sem Cert.KernelIdeal Cert.KernelIdeal.Gen

/-- The kernel's distance from query `r` to its nearest bank row, over the augmented arrays. -/
def kerRoot (q : Vec Ideal S6272x384 .f32) (b : Vec Ideal S20000x384 .f32) (r : Fin 6272) : EReal :=
  Ideal.sqrt (max (Ideal.ofBits .f32 0x3E800000#32 * ((∑ d : Fin 400, augQuery q r d * augQuery q r d) - Ideal.ofBits .f32 0x40000000#32)
      + ⨅ k : Fin 20480, ∑ d : Fin 400, augQuery q r d * augBank b k d)
    (Ideal.ofBits .f32 0x2B8CBCCC#32))

variable (m : (ℓ : Loc nD τ sig) → Buf (Elt Ideal) ℓ) (c : Dev nD)

/-- The row of the query array that row `p` of block `t` is. -/
def rowOf (t : Fin 8) (p : Fin 784) : Fin 6272 := ⟨t.val * 784 + p.val, by omega⟩

/-- Point `t` of the pipeline reads block `t` of the queries. -/
theorem query_index (t : Fin cfg0.N) : win0_0.index t = ![t.val, 0] :=
  (by decide +kernel : ∀ t : Fin cfg0.N, win0_0.index t = ![t.val, 0]) t

/-- Every point of the pipeline reads the whole bank. -/
theorem bank_index (t : Fin cfg0.N) : win0_1.index t = ![0, 0] :=
  (by decide +kernel : ∀ t : Fin cfg0.N, win0_1.index t = ![0, 0]) t

/-- Point `t` of the pipeline writes block `t` of the patch results. -/
theorem patch_index (t : Fin cfg0.N) : win0_2.index t = ![t.val, 0, 0] :=
  (by decide +kernel : ∀ t : Fin cfg0.N, win0_2.index t = ![t.val, 0, 0]) t

/-- Point `t` of the pipeline writes block `t` of the image results. -/
theorem image_index (t : Fin cfg0.N) : win0_3.index t = ![t.val, 0, 0] :=
  (by decide +kernel : ∀ t : Fin cfg0.N, win0_3.index t = ![t.val, 0, 0]) t

/-- Row `p` of the queries' block at point `t` is row `784 t + p` of the augmented queries. -/
theorem query_block (t : Fin cfg0.N) (p : Fin 784) (d : Fin 400) :
    (show EReal from iblk m c 0 t (ix2 p d)) = augQuery (m ((c.tc : Thread nD τ).loc main_arg0)) (rowOf t p) d := by
  refine Eq.trans ?_ (queries_apply m c (rowOf t p) d)
  blk_simp [iblk]
  refine congrArg (V m c main_v5) ?_
  blk_ext [query_index, rowOf]

/-- The bank's block at every point is the augmented bank. -/
theorem bank_block (t : Fin cfg0.N) (k : Fin 20480) (d : Fin 400) :
    (show EReal from iblk m c 1 t (ix2 k d)) = augBank (m ((c.tc : Thread nD τ).loc main_arg1)) k d := by
  refine Eq.trans ?_ (bank_apply m c k d)
  blk_simp [iblk]
  refine congrArg (V m c main_v21) ?_
  blk_ext [bank_index]

/-- The body's distance at row `p` of point `t` is the kernel's distance of that row. -/
theorem root_block (t : Fin cfg0.N) (p : Fin 784) :
    Ideal.sqrt (nearest (iblk m c 0 t) (iblk m c 1 t) p)
      = kerRoot (m ((c.tc : Thread nD τ).loc main_arg0)) (m ((c.tc : Thread nD τ).loc main_arg1)) (rowOf t p) := by
  have hq : ∀ d : Fin 400, (iblk m c 0 t (ix2 p d) : EReal) = augQuery (m ((c.tc : Thread nD τ).loc main_arg0)) (rowOf t p) d := query_block m c t p
  have hb : ∀ (k : Fin 20480) (d : Fin 400), bankAt (iblk m c 1 t) k.val d = augBank (m ((c.tc : Thread nD τ).loc main_arg1)) k d :=
    fun k d => (bank_eq (iblk m c 1 t) k.val k.isLt d).symm.trans (bank_block m c t k d)
  unfold nearest kerRoot score
  simp only [hq, hb]

/-- The patch results after the run: at block `t`, row `p`, the kernel's distance of that row. -/
theorem patches_final : (dats m 0 c).arrAt 2 cfg0.N = fun i : S8x1x784.Idx =>
    kerRoot (m ((c.tc : Thread nD τ).loc main_arg0)) (m ((c.tc : Thread nD τ).loc main_arg1)) (rowOf (i 0) (i 2)) := by
  refine (dats m 0 c).arrAt_eq_of_covers 2 _ (by decide +kernel) fun t _ y => ?_
  blk_simp
  rw [after0_2]
  idx_vars y
  refine (patch_block_apply _ _ y0 y1 y2).trans ((root_block m c t y2).trans ?_)
  refine congrArg (kerRoot _ _) (Fin.ext ?_)
  unfold rowOf
  blk_simp [patch_index]

/-- The image results after the run: at block `t`, every lane, the greatest distance over the block's rows. -/
theorem images_final : (dats m 0 c).arrAt 3 cfg0.N = fun i : S8x1x128.Idx =>
    Finset.fold max (Ideal.ofBits .f32 0xFF800000#32) (fun p : Fin 784 =>
      kerRoot (m ((c.tc : Thread nD τ).loc main_arg0)) (m ((c.tc : Thread nD τ).loc main_arg1)) (rowOf (i 0) p)) Finset.univ := by
  refine (dats m 0 c).arrAt_eq_of_covers 3 _ (by decide +kernel) fun t _ y => ?_
  blk_simp
  rw [after0_3]
  idx_vars y
  refine (image_block_apply _ _ y0 y1 y2).trans ?_
  refine congrArg (Finset.fold max _ · Finset.univ) (funext fun p => (root_block m c t p).trans ?_)
  refine congrArg (kerRoot _ _) (Fin.ext ?_)
  unfold rowOf
  blk_simp [image_index]

end Cert.Nearest

end
-- ==== Proof.TopOne.lean ====
/- The one greatest element that `top_k` with `k = 1` takes along the last axis of a matrix, over the extended reals. -/
module

public import Idealize.ShloMosaic.PureOps.Ideal
public import Idealize.ShloMosaic.Lib.SortFacts
public import Idealize.ShloMosaic.Lib.Pointwise

@[expose] public section

noncomputable section

namespace Cert.Nearest

open Idealize.ShloMosaic

/-- The position a stable sort of `n` extended reals, greater first, puts in front holds the greatest of them. -/
theorem front_eq_iSup {n : Nat} (f : Fin n → EReal) (R : Fin n → Fin n → Bool) (hR : ∀ a b, R a b = decide (f b < f a))
    (z : Fin n) (hz : z.val = 0) : f (sortedFrom R z) = ⨆ k, f k := by
  refine le_antisymm (le_iSup f _) (iSup_le fun k => ?_)
  obtain ⟨j, rfl⟩ := sortedFrom_surjective R k
  rcases Nat.eq_zero_or_pos j.val with hj | hj
  · obtain rfl : j = z := Fin.ext (hj.trans hz.symm)
    exact le_refl _
  · have h := sortedFrom_noInversion R R
      (fun a b h => by
        rw [hR, decide_eq_true_eq] at h
        rw [hR, decide_eq_false_iff_not]
        exact not_lt.mpr h.le)
      (fun _ _ h => h)
      (fun a b c hab hbc => by
        rw [hR, decide_eq_false_iff_not, not_lt] at hab hbc ⊢
        exact hab.trans hbc)
      z j (by rw [Fin.lt_def]; omega)
    rw [hR, decide_eq_false_iff_not, not_lt] at h
    exact h

/-- The greatest of each row, as `top_k` with `k = 1` along the last axis returns it. -/
theorem topOne_apply {a b : Nat} (x : FVec Ideal ⟨2, ![a, b]⟩ .f32)
    (h : (⟨2, ![a, b]⟩ : Shape).Slices (fun _ => 0) ⟨2, ![a, 1]⟩) (r : Fin a) (z : Fin 1) :
    ((Host.topK ⟨2, ![a, 1]⟩ 1 (FloatOps.cmpfTotal .gt) x h).1 (ix2 r z) : EReal) = ⨆ k : Fin b, (x (ix2 r k) : EReal) := by
  have hb : 0 < b := by
    have := h.2 (1 : Fin 2)
    have h1 : 1 ≤ b := by simpa using this
    omega
  have hi : ∀ k : Fin b, (ix2 r ⟨0, hb⟩ : (⟨2, ![a, b]⟩ : Shape).Idx).along (1 : Fin 2) k = ix2 r k := by
    intro k
    funext i
    fin_cases i <;> rfl
  obtain rfl : z = 0 := Subsingleton.elim _ _
  have e := extractStridedSlice_apply (s := ⟨2, ![a, b]⟩) (t := ⟨2, ![a, 1]⟩) (fun _ => 0)
    (Host.sort2 (⟨2, ![a, b]⟩ : Shape) 1 (fun l r => FloatOps.cmpfTotal .gt l.1 r.1) x
      (fun i => iotaInDim (⟨2, ![a, b]⟩ : Shape) 32 ⟨1, Nat.one_lt_two⟩ i)).1 h (ix2 r 0) (ix2 r ⟨0, hb⟩)
      (by intro i; fin_cases i <;> simp)
  refine Eq.trans e ?_
  unfold Host.sort2
  rw [dif_pos (show 1 < (⟨2, ![a, b]⟩ : Shape).rank from Nat.one_lt_two)]
  refine (congrArg x (hi _)).trans ?_
  refine front_eq_iSup (fun k : Fin b => (x (ix2 r k) : EReal)) _ (fun k k' => ?_) _ rfl
  have hc : ∀ u v : EReal, (Ideal.cmpTotal .gt u v == 1#1) = decide (v < u) := by
    intro u v
    unfold Ideal.cmpTotal Ideal.cmp
    by_cases hv : v < u <;> simp [CmpDirection.ordered, hv]
  refine (hc _ _).trans ?_
  exact congrArg₂ (fun u v : EReal => decide (v < u)) (congrArg x (hi k)) (congrArg x (hi k'))

end Cert.Nearest

end
-- ==== Proof.Reference.lean ====
/- What the reference computes, read at an index of each result. -/
module

public import proofs.«01_k».proof.Proof.Gen.ReferenceIdeal.Read
public import proofs.«01_k».proof.Proof.TopOne

@[expose] public section

set_option maxRecDepth 16384

noncomputable section

namespace Cert.Nearest

open Idealize.ShloMosaic Cert.ReferenceIdeal Cert.ReferenceIdeal.Gen Cert.ReferenceIdeal.Read

/-- The squared distance of query row `r` to bank row `k`, expanded as the reference expands it. -/
def dist2 (q : Vec Ideal S6272x384 .f32) (m : Vec Ideal S20000x384 .f32) (r : Fin 6272) (k : Fin 20000) : EReal :=
  ((∑ d : Fin 384, (q (ix2 r d) : EReal) * q (ix2 r d)) + ∑ d : Fin 384, (m (ix2 k d) : EReal) * m (ix2 k d))
    - Ideal.ofBits .f32 0x40000000#32 * ∑ d : Fin 384, (q (ix2 r d) : EReal) * m (ix2 k d)

/-- The reference's distance of query row `r` to its nearest bank row. -/
def refRoot (q : Vec Ideal S6272x384 .f32) (m : Vec Ideal S20000x384 .f32) (r : Fin 6272) : EReal :=
  Ideal.sqrt (-(⨆ k : Fin 20000, -(max (dist2 q m r k) (Ideal.ofBits .f32 0x2B8CBCCC#32))))

/-- The matrix the reference takes the greatest of: minus the clamped squared distances. -/
theorem v16_apply (q : Vec Ideal S6272x384 .f32) (m : Vec Ideal S20000x384 .f32) (r : Fin 6272) (k : Fin 20000) :
    (val_main_v16 (F := Ideal) q m (ix2 r k) : EReal) = -(max (dist2 q m r k) (Ideal.ofBits .f32 0x2B8CBCCC#32)) := by
  pointwise [val_main_v16, val_main_v15, val_main_v14, val_main_v13, val_main_v12, val_main_v11, val_main_v10, val_main_v9,
    val_main_v8, val_main_v7, val_main_v6, val_main_v5, val_main_v4, val_main_v3, val_main_v2, val_main_v1, val_main_v0,
    val_main_cst, val_main_cst_0, val_main_cst_1, val_main_cst_2, dist2]

/-- The reference's root of row `r`. -/
theorem v19_apply (q : Vec Ideal S6272x384 .f32) (m : Vec Ideal S20000x384 .f32) (r : Fin 6272) :
    (val_main_v19 (F := Ideal) q m (ix1 r) : EReal) = refRoot q m r := by
  pointwise [val_main_v19, val_main_v18, val_main_v17, val_main_values]
  unfold refRoot
  simp only [← v16_apply]
  exact congrArg (fun y => Ideal.sqrt (-y)) (topOne_apply (val_main_v16 (F := Ideal) q m) sliceFits_S6272x20000_S6272x1 r 0)

/-- The first result at patch `(b, h, w)`. -/
theorem ref_patch_apply (q : Vec Ideal S6272x384 .f32) (m : Vec Ideal S20000x384 .f32) (b : Fin 8) (h w : Fin 28) :
    (val_main_v20 (F := Ideal) q m (ix3 b h w) : EReal) = refRoot q m ⟨b.val * 784 + h.val * 28 + w.val, by omega⟩ := by
  pointwise [val_main_v20]
  exact v19_apply q m _

/-- The second result at image `b`: the greatest of the image's 784 distances. -/
theorem ref_image_apply (q : Vec Ideal S6272x384 .f32) (m : Vec Ideal S20000x384 .f32) (b : Fin 8) :
    (val_main_v22 (F := Ideal) q m (ix1 b) : EReal)
      = Finset.fold max (Ideal.ofBits .f32 0xFF800000#32) (fun p : Fin 784 => refRoot q m ⟨b.val * 784 + p.val, by omega⟩) Finset.univ := by
  pointwise [val_main_v22, val_main_v21, val_main_v20, val_main_cst_3]
  exact congrArg (fun f => Finset.fold max _ f Finset.univ) (funext fun p => v19_apply q m _)

end Cert.Nearest

end
-- ==== Proof.Equation.lean ====
/- The kernel's distance and the reference's are one number when every query and every bank entry is a real of bounded size. -/
module

public import proofs.«01_k».proof.Proof.Arrays
public import proofs.«01_k».proof.Proof.Reference

@[expose] public section

set_option maxRecDepth 16384

noncomputable section

namespace Cert.Nearest

open Idealize.ShloMosaic Cert.KernelIdeal

/-- A quarter. -/
theorem quarter_eq : Ideal.ofBits .f32 0x3E800000#32 = ((1 / 4 : ℝ) : EReal) := by
  simp [Ideal.ofBits, Ideal.ieee, -EReal.coe_mul]; norm_num

/-- Two. -/
theorem two_eq : Ideal.ofBits .f32 0x40000000#32 = ((2 : ℝ) : EReal) := by
  simp [Ideal.ofBits, Ideal.ieee, -EReal.coe_mul]; norm_num

/-- Minus two. -/
theorem negTwo_eq : Ideal.ofBits .f32 0xC0000000#32 = ((-2 : ℝ) : EReal) := by
  simp [Ideal.ofBits, Ideal.ieee, -EReal.coe_mul]; norm_num

/-- The large number of the rows behind the bank. -/
theorem large_eq : Ideal.ofBits .bf16 0x5015#16 = ((9999220736 : ℝ) : EReal) := by
  simp [Ideal.ofBits, Ideal.ieee, -EReal.coe_mul]; norm_num

/-- The bound of the precondition. -/
theorem bound_eq : Ideal.ofBits .f32 0x45000000#32 = ((2048 : ℝ) : EReal) := by
  simp [Ideal.ofBits, Ideal.ieee, -EReal.coe_mul]; norm_num

/-- A sum of reals is the same sum in the extended reals. -/
theorem coe_sum {n : Nat} (f : Fin n → ℝ) : ∑ d, (f d : EReal) = ((∑ d, f d : ℝ) : EReal) := by
  induction n with
  | zero => simp
  | succ n ih => rw [Fin.sum_univ_castSucc, Fin.sum_univ_castSucc, ih, EReal.coe_add]

/-- A sum over the 400 columns whose last 14 terms are zero: the 384 of the vectors and the two behind them. -/
theorem sum_columns (f : Fin 400 → ℝ) (g : Fin 384 → ℝ) (u v : ℝ) (hg : ∀ d : Fin 384, f ⟨d.val, by omega⟩ = g d)
    (hu : f ⟨384, by omega⟩ = u) (hv : f ⟨385, by omega⟩ = v) (h0 : ∀ d : Fin 14, f ⟨386 + d.val, by omega⟩ = 0) :
    ∑ d, f d = ∑ d, g d + (u + v) := by
  rw [Fin.sum_univ_add (a := 384) (b := 16) f, Fin.sum_univ_add (a := 2) (b := 14), Fin.sum_univ_two]
  have e₁ : ∀ d : Fin 384, f (Fin.castAdd 16 d) = g d := hg
  have e₂ : f (Fin.natAdd 384 (Fin.castAdd 14 (0 : Fin 2))) = u := hu
  have e₃ : f (Fin.natAdd 384 (Fin.castAdd 14 (1 : Fin 2))) = v := hv
  have e₄ : ∀ d : Fin 14, f (Fin.natAdd 384 (Fin.natAdd 2 d)) = 0 := fun d =>
    (congrArg f (Fin.ext (by simp only [Fin.val_natAdd]; omega))).trans (h0 d)
  simp only [e₁, e₂, e₃, e₄, Finset.sum_const_zero, add_zero]

/-- The augmented query, for real queries. -/
def realQuery (Q : Fin 6272 → Fin 384 → ℝ) (r : Fin 6272) (d : Fin 400) : ℝ :=
  if h : d.val < 384 then -2 * Q r ⟨d.val, h⟩ else if d.val < 386 then 1 else 0

/-- The augmented bank, for a real bank. -/
def realBank (B : Fin 20000 → Fin 384 → ℝ) (k : Fin 20480) (d : Fin 400) : ℝ :=
  if hk : k.val < 20000 then
    if h : d.val < 384 then B ⟨k.val, hk⟩ ⟨d.val, h⟩
    else if d.val = 384 then ∑ e, B ⟨k.val, hk⟩ e * B ⟨k.val, hk⟩ e
    else 0
  else if d.val = 384 then 9999220736 else 0

variable (q : Vec Ideal S6272x384 .f32) (b : Vec Ideal S20000x384 .f32)
  (Q : Fin 6272 → Fin 384 → ℝ) (B : Fin 20000 → Fin 384 → ℝ)

/-- Real queries have a real augmented query. -/
theorem augQuery_real (hQ : ∀ r d, (q (ix2 r d) : EReal) = Q r d) (r : Fin 6272) (d : Fin 400) :
    augQuery q r d = (realQuery Q r d : EReal) := by
  unfold augQuery realQuery
  split
  · rw [hQ, negTwo_eq, EReal.coe_mul]
  · split <;> simp

/-- A real bank row has a real squared norm. -/
theorem normSq_real (hB : ∀ k d, (b (ix2 k d) : EReal) = B k d) (k : Fin 20000) :
    normSq b k = ((∑ d, B k d * B k d : ℝ) : EReal) := by
  unfold normSq
  simp only [hB, ← EReal.coe_mul, coe_sum]

/-- A real bank has a real augmented bank. -/
theorem augBank_real (hB : ∀ k d, (b (ix2 k d) : EReal) = B k d) (k : Fin 20480) (d : Fin 400) :
    augBank b k d = (realBank B k d : EReal) := by
  unfold augBank realBank
  simp only [normSq_real b B hB]
  split
  · split
    · exact hB _ _
    · split
      · rfl
      · split
        · rw [← EReal.coe_sub, sub_self]
        · simp
  · split
    · exact large_eq
    · simp

/-- The augmented query in the columns of the vectors. -/
theorem realQuery_head (r : Fin 6272) (d : Fin 384) (h : d.val < 400) : realQuery Q r ⟨d.val, h⟩ = -2 * Q r d := by
  unfold realQuery; rw [dif_pos d.isLt]

/-- The augmented query in the two columns behind the vectors. -/
theorem realQuery_one (r : Fin 6272) (e : Nat) (h : e < 400) (h₁ : 384 ≤ e) (h₂ : e < 386) : realQuery Q r ⟨e, h⟩ = 1 := by
  unfold realQuery; rw [dif_neg (Nat.not_lt.2 h₁), if_pos h₂]

/-- The augmented query in the last columns. -/
theorem realQuery_zero (r : Fin 6272) (e : Nat) (h : e < 400) (h₁ : 386 ≤ e) : realQuery Q r ⟨e, h⟩ = 0 := by
  unfold realQuery; rw [dif_neg (show ¬ e < 384 by omega), if_neg (Nat.not_lt.2 h₁)]

/-- An augmented query's product with itself. -/
theorem query_self (r : Fin 6272) :
    ∑ d, realQuery Q r d * realQuery Q r d = 4 * (∑ d, Q r d * Q r d) + 2 := by
  refine (sum_columns _ (fun d => 4 * (Q r d * Q r d)) 1 1 (fun d => ?_) ?_ ?_ (fun d => ?_)).trans ?_
  · rw [realQuery_head]; ring
  · rw [realQuery_one Q r 384 _ (by omega) (by omega), one_mul]
  · rw [realQuery_one Q r 385 _ (by omega) (by omega), one_mul]
  · rw [realQuery_zero Q r _ _ (by omega), zero_mul]
  · rw [Finset.mul_sum]; norm_num

/-- The product with a bank row: the row's squared norm less twice the inner product. -/
theorem query_bank (r : Fin 6272) (k : Fin 20480) (hk : k.val < 20000) :
    ∑ d, realQuery Q r d * realBank B k d
      = (∑ d, B ⟨k.val, hk⟩ d * B ⟨k.val, hk⟩ d) - 2 * ∑ d, Q r d * B ⟨k.val, hk⟩ d := by
  refine (sum_columns _ (fun d => -(2 * (Q r d * B ⟨k.val, hk⟩ d))) (∑ d, B ⟨k.val, hk⟩ d * B ⟨k.val, hk⟩ d) 0
    (fun d => ?_) ?_ ?_ (fun d => ?_)).trans ?_
  · rw [realQuery_head]; unfold realBank; rw [dif_pos hk, dif_pos d.isLt]; ring
  · rw [realQuery_one Q r 384 _ (by omega) (by omega)]; unfold realBank; rw [dif_pos hk, dif_neg (show ¬ 384 < 384 by omega), if_pos rfl, one_mul]
  · unfold realBank; rw [dif_pos hk, dif_neg (show ¬ 385 < 384 by omega), if_neg (show ¬ 385 = 384 by omega), mul_zero]
  · rw [realQuery_zero Q r _ _ (by omega), zero_mul]
  · rw [Finset.sum_neg_distrib, Finset.mul_sum]; ring

/-- The product with a row behind the bank is the large number. -/
theorem query_pad (r : Fin 6272) (k : Fin 20480) (hk : ¬ k.val < 20000) :
    ∑ d, realQuery Q r d * realBank B k d = 9999220736 := by
  refine (sum_columns _ (fun _ => 0) 9999220736 0 (fun d => ?_) ?_ ?_ (fun d => ?_)).trans ?_
  · unfold realBank; rw [dif_neg hk, if_neg (show ¬ d.val = 384 by omega), mul_zero]
  · rw [realQuery_one Q r 384 _ (by omega) (by omega)]; unfold realBank; rw [dif_neg hk, if_pos rfl, one_mul]
  · unfold realBank; rw [dif_neg hk, if_neg (show ¬ 385 = 384 by omega), mul_zero]
  · rw [realQuery_zero Q r _ _ (by omega), zero_mul]
  · rw [Finset.sum_const_zero]; norm_num

/-- The squared norm of a bank row less twice an inner product stays below the large number. -/
theorem bank_le (hQ : ∀ r d, |Q r d| ≤ 2048) (hB : ∀ k d, |B k d| ≤ 2048) (r : Fin 6272) (k : Fin 20000) :
    (∑ d, B k d * B k d) - 2 * ∑ d, Q r d * B k d ≤ 9999220736 := by
  rw [Finset.mul_sum, ← Finset.sum_sub_distrib]
  refine (Finset.sum_le_card_nsmul Finset.univ _ (3 * 2048 * 2048) fun d _ => ?_).trans (by simp; norm_num)
  have h₁ := abs_le.1 (hQ r d)
  have h₂ := abs_le.1 (hB k d)
  nlinarith [h₁.1, h₁.2, h₂.1, h₂.2]

/-- For bounded real arguments the kernel's distance is the reference's. -/
theorem roots_eq (hq : ∀ r d, ∃ x : ℝ, (q (ix2 r d) : EReal) = x ∧ |x| ≤ 2048)
    (hb : ∀ k d, ∃ x : ℝ, (b (ix2 k d) : EReal) = x ∧ |x| ≤ 2048) (r : Fin 6272) : kerRoot q b r = refRoot q b r := by
  choose Q hQ hQ' using hq
  choose B hB hB' using hb
  let S : Fin 20000 → ℝ := fun k => (∑ d, B k d * B k d) - 2 * ∑ d, Q r d * B k d
  obtain ⟨k₀, hk₀⟩ := Finite.exists_min S
  have hker : (⨅ k : Fin 20480, ∑ d : Fin 400, augQuery q r d * augBank b k d) = (S k₀ : EReal) := by
    simp only [augQuery_real q Q hQ, augBank_real b B hB, ← EReal.coe_mul, coe_sum]
    refine le_antisymm (iInf_le_of_le ⟨k₀.val, by omega⟩ (EReal.coe_le_coe (query_bank Q B r _ k₀.isLt).le)) (le_iInf fun k => ?_)
    by_cases hk : k.val < 20000
    · rw [query_bank Q B r k hk]
      exact EReal.coe_le_coe (hk₀ _)
    · rw [query_pad Q B r k hk]
      exact EReal.coe_le_coe (bank_le Q B hQ' hB' r k₀)
  have hdist : ∀ k, dist2 q b r k = (((∑ d, Q r d * Q r d) + S k : ℝ) : EReal) := by
    intro k
    unfold dist2
    rw [two_eq]
    simp only [hQ, hB, ← EReal.coe_mul, coe_sum, ← EReal.coe_add, ← EReal.coe_sub]
    exact congrArg _ (add_sub_assoc _ _ _)
  unfold kerRoot refRoot
  congr 1
  rw [hker]
  simp only [augQuery_real q Q hQ, ← EReal.coe_mul, coe_sum, query_self, hdist, quarter_eq, two_eq, ← EReal.coe_sub, ← EReal.coe_add]
  have hsup : (⨆ k : Fin 20000, -(max (((∑ d, Q r d * Q r d) + S k : ℝ) : EReal) (Ideal.ofBits .f32 0x2B8CBCCC#32)))
      = -(max (((∑ d, Q r d * Q r d) + S k₀ : ℝ) : EReal) (Ideal.ofBits .f32 0x2B8CBCCC#32)) :=
    le_antisymm (iSup_le fun k => EReal.neg_le_neg_iff.2 (max_le_max (EReal.coe_le_coe (by linarith [hk₀ k])) le_rfl))
      (le_iSup_of_le k₀ le_rfl)
  rw [hsup, neg_neg]
  congr 2
  ring

end Cert.Nearest

end
-- ==== Proof.Bounded.lean ====
/- The precondition, read at an entry: a real number of size at most 2048. -/
module

public import proofs.«01_k».proof.Pre_bounded
public import proofs.«01_k».proof.Proof.Equation

@[expose] public section

noncomputable section

namespace Cert.Nearest

open Idealize.ShloMosaic

/-- The shape facts the precondition takes. -/
theorem boundedFacts : Cert.Pre_bounded.Facts where
  bcast_S_S6272x384 := by decide
  bcast_S_S20000x384 := by decide

/-- An extended real whose size is at most 2048 is a real of that size. -/
theorem real_of_size (x : EReal) (h : max x (-x) ≤ ((2048 : ℝ) : EReal)) : ∃ y : ℝ, x = y ∧ |y| ≤ 2048 := by
  obtain ⟨h₁, h₂⟩ := max_le_iff.1 h
  induction x using EReal.rec with
  | bot => exact absurd h₂ (not_le_of_gt (by rw [EReal.neg_bot]; exact EReal.coe_lt_top _))
  | top => exact absurd h₁ (not_le_of_gt (EReal.coe_lt_top _))
  | coe y =>
    rw [← EReal.coe_neg] at h₂
    exact ⟨y, rfl, abs_le.2 ⟨by linarith [EReal.coe_le_coe_iff.1 h₂], EReal.coe_le_coe_iff.1 h₁⟩⟩

/-- A true word is a true test. -/
theorem holds_of_word {p : Prop} [Decidable p] (h : BitVec.ofBool (decide p) = 1#1) : p := by
  by_contra hn
  rw [decide_eq_false hn] at h
  exact absurd h (by decide)

/-- The precondition at an entry of each argument: a real of size at most 2048. -/
theorem bounded_entries [Cert.Pre_bounded.Facts] (q : Vec Ideal Cert.Pre_bounded.S6272x384 .f32) (b : Vec Ideal Cert.Pre_bounded.S20000x384 .f32)
    (h : (Cert.Pre_bounded.fn (F := Ideal) q b).1 = (fun _ => 1#1) ∧ (Cert.Pre_bounded.fn (F := Ideal) q b).2 = (fun _ => 1#1)) :
    (∀ r d, ∃ x : ℝ, (q (ix2 r d) : EReal) = x ∧ |x| ≤ 2048) ∧ (∀ k d, ∃ x : ℝ, (b (ix2 k d) : EReal) = x ∧ |x| ≤ 2048) := by
  refine ⟨fun r d => real_of_size _ ?_, fun k d => real_of_size _ ?_⟩ <;> rw [← bound_eq]
  · exact holds_of_word (congrFun h.1 (ix2 r d))
  · exact holds_of_word (congrFun h.2 (ix2 k d))

end Cert.Nearest

end
-- ==== Proof.Results.lean ====
/- The kernel's two results after the host operations behind the pipeline. -/
module

public import proofs.«01_k».proof.Proof.Arrays

@[expose] public section

set_option maxRecDepth 16384

noncomputable section

namespace Cert.Nearest

open Idealize.ShloMosaic Idealize.ShloMosaic.TcCoe Idealize.SL.Sem Cert.KernelIdeal Cert.KernelIdeal.Gen

variable (m : (ℓ : Loc nD τ sig) → Buf (Elt Ideal) ℓ) (c : Dev nD)

/-- The first result at patch `(b, h, w)`: the kernel's distance of that patch's row. -/
theorem ker_patch_apply (b : Fin 8) (h w : Fin 28) :
    (show EReal from Pipeline.afterTail₀ cfgs (dats m) 0 (V0 m) [hostOps1] c main_v23 (ix3 b h w))
      = kerRoot (m ((c.tc : Thread nD τ).loc main_arg0)) (m ((c.tc : Thread nD τ).loc main_arg1))
          ⟨b.val * 784 + h.val * 28 + w.val, by omega⟩ := by
  have e : Pipeline.withArrays (cfgs 0).spec c (V0 m c) (fun w => (dats m 0 c).arrAt w (cfgs 0).N) (Proc.devRef .tc main_v22_0) = _ :=
    (Pipeline.withArrays_arr (cfgs 0).spec (by decide) c (V0 m c) (fun w => (dats m 0 c).arrAt w (cfgs 0).N) 2).trans (patches_final m c)
  unfold Pipeline.afterTail₀
  after_reads_at
  rw [e]
  refine congrArg (kerRoot _ _) (Fin.ext ?_)
  exact (Nat.add_assoc _ _ _).symm

/-- The second result at image `b`: the greatest of the kernel's distances over the image's rows. -/
theorem ker_image_apply (b : Fin 8) :
    (show EReal from Pipeline.afterTail₀ cfgs (dats m) 0 (V0 m) [hostOps1] c main_v25 (ix1 b))
      = Finset.fold max (Ideal.ofBits .f32 0xFF800000#32) (fun p : Fin 784 =>
          kerRoot (m ((c.tc : Thread nD τ).loc main_arg0)) (m ((c.tc : Thread nD τ).loc main_arg1))
            ⟨b.val * 784 + p.val, by omega⟩) Finset.univ := by
  have e : Pipeline.withArrays (cfgs 0).spec c (V0 m c) (fun w => (dats m 0 c).arrAt w (cfgs 0).N) (Proc.devRef .tc main_v22_1) = _ :=
    (Pipeline.withArrays_arr (cfgs 0).spec (by decide) c (V0 m c) (fun w => (dats m 0 c).arrAt w (cfgs 0).N) 3).trans (images_final m c)
  unfold Pipeline.afterTail₀
  after_reads_at
  rw [e]
  rfl

end Cert.Nearest

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel.Frame
public import proofs.«01_k».proof.Proof.Gen.KernelIdeal.Frame
public import proofs.«01_k».proof.Proof.Bounded
public import proofs.«01_k».proof.Proof.Results
public import Idealize.ShloMosaic.Adequacy
public import Idealize.ShloMosaic.Init

@[expose] public section

noncomputable section

namespace Cert.Proof

open Idealize.ShloMosaic Idealize.SL.Sem

/-- The reference runs, leaves its arguments as they were, and ends with every counter at zero: it has none. -/
theorem reference_frame : Cert.quiescent_ReferenceIdeal := fun m g _ =>
  (θ_run Cert.ReferenceIdeal.defs _ _).mono (fun r h => ⟨fun c => (h c).2.2, sem_eq_zero_of_no_sems (by decide) r.2⟩)
    (Cert.ReferenceIdeal.Value.run (F := Ideal) m g)

section Agree

open Cert.KernelIdeal Cert.KernelIdeal.Gen Cert.Nearest

variable (m : (ℓ : Loc nD τ sig) → Buf (Elt Ideal) ℓ) (c : Dev nD)
  (roots : ∀ r, kerRoot (m ((c.tc : Thread nD τ).loc main_arg0)) (m ((c.tc : Thread nD τ).loc main_arg1)) r
    = refRoot (m ((c.tc : Thread nD τ).loc main_arg0)) (m ((c.tc : Thread nD τ).loc main_arg1)) r)

include roots

/-- Where the two distances agree, the reference's first result is the kernel's. -/
theorem patches_agree :
    Cert.ReferenceIdeal.Read.val_main_v20 (F := Ideal) (m ((c.tc : Thread nD τ).loc main_arg0)) (m ((c.tc : Thread nD τ).loc main_arg1))
      = Pipeline.afterTail₀ cfgs (dats m) 0 (V0 m) [hostOps1] c main_v23 := by
  funext i
  idx_vars i
  exact (ref_patch_apply _ _ i0 i1 i2).trans ((roots _).symm.trans (ker_patch_apply m c i0 i1 i2).symm)

/-- Where the two distances agree, the reference's second result is the kernel's. -/
theorem images_agree :
    Cert.ReferenceIdeal.Read.val_main_v22 (F := Ideal) (m ((c.tc : Thread nD τ).loc main_arg0)) (m ((c.tc : Thread nD τ).loc main_arg1))
      = Pipeline.afterTail₀ cfgs (dats m) 0 (V0 m) [hostOps1] c main_v25 := by
  funext i
  idx_vars i
  refine (ref_image_apply _ _ i0).trans (Eq.trans ?_ (ker_image_apply m c i0).symm)
  exact congrArg (Finset.fold max _ · Finset.univ) (funext fun p => (roots _).symm)

end Agree

/-- On bounded arguments the idealized kernel and the reference end with the same two results. -/
theorem algebraic [Cert.Pre_bounded.Facts] : Cert.algebraic_KernelIdeal_ReferenceIdeal_pre_bounded := by
  intro m g m' g' hpre hagree
  have roots := fun c => (Cert.Nearest.bounded_entries _ _ (hpre c)).elim (Cert.Nearest.roots_eq _ _)
  refine ⟨fun c => Pipeline.afterTail₀ Cert.KernelIdeal.cfgs (Cert.KernelIdeal.Gen.dats m) 0 (Cert.KernelIdeal.Gen.V0 m) [Cert.KernelIdeal.Gen.hostOps1] c Cert.KernelIdeal.main_v23,
    fun c => Pipeline.afterTail₀ Cert.KernelIdeal.cfgs (Cert.KernelIdeal.Gen.dats m) 0 (Cert.KernelIdeal.Gen.V0 m) [Cert.KernelIdeal.Gen.hostOps1] c Cert.KernelIdeal.main_v25, ?_, ?_⟩
  · exact (θ_run Cert.KernelIdeal.defs _ _).mono (fun r h c => ⟨(h.1 c).2 _ (by decide), (h.1 c).2 _ (by decide), h.2 c⟩)
      (θ_run_and (Cert.KernelIdeal.Gen.run_main m g) (Cert.KernelIdeal.Gen.unchanged m g))
  · refine (θ_run Cert.ReferenceIdeal.defs _ _).mono (fun r h c => ⟨(h c).1.trans ?_, (h c).2.1.trans ?_, (h c).2.2⟩)
      (Cert.ReferenceIdeal.Value.run (F := Ideal) m' g')
    · rw [Cert.ReferenceIdeal.Read.val_main_v20_eq, (hagree c).1, (hagree c).2]
      exact patches_agree m c (roots c)
    · rw [Cert.ReferenceIdeal.Read.val_main_v22_eq, (hagree c).1, (hagree c).2]
      exact images_agree m c (roots c)

/-- The certificate's claim. -/
theorem claim : Cert.Claim := ⟨Cert.Kernel.Gen.facts, Cert.KernelIdeal.Gen.facts, Cert.ReferenceIdeal.Gen.facts, Cert.Nearest.boundedFacts,
  fun m g _ => Cert.Kernel.Gen.frame m g, fun m g _ => Cert.KernelIdeal.Gen.frame m g, fun m g _ => Cert.KernelIdeal.Gen.frame m g,
  reference_frame, fun m g _ => reference_frame m g trivial, trivial, @algebraic Cert.Nearest.boundedFacts⟩

end Cert.Proof

end
